-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x1x17920 : Shape := ⟨3, ![32, 1, 17920]⟩
abbrev S32x1x1 : Shape := ⟨3, ![32, 1, 1]⟩
abbrev S17920x5120 : Shape := ⟨2, ![17920, 5120]⟩
abbrev S5120 : Shape := ⟨1, ![5120]⟩
abbrev S32x1x5120 : Shape := ⟨3, ![32, 1, 5120]⟩
abbrev S32x17920 : Shape := ⟨2, ![32, 17920]⟩
abbrev S1x32 : Shape := ⟨2, ![1, 32]⟩
abbrev S1x5120 : Shape := ⟨2, ![1, 5120]⟩
abbrev S32x5120 : Shape := ⟨2, ![32, 5120]⟩
abbrev S17920x512 : Shape := ⟨2, ![17920, 512]⟩
abbrev S1x512 : Shape := ⟨2, ![1, 512]⟩
abbrev S32x512 : Shape := ⟨2, ![32, 512]⟩
abbrev S32x1 : Shape := ⟨2, ![32, 1]⟩

abbrev nBuf : Space → Nat
  | .hbm => 11
  | .vmem => 10
  | .smem => 0
  | _ => 0

abbrev bufTy : (tb : Table) → Fin (tcTables nBuf tb) → BufTy
  | .hbm, ⟨0, _⟩ => ⟨S32x1x17920, .fp8e4m3⟩
  | .hbm, ⟨1, _⟩ => ⟨S32x1x1, .f32⟩
  | .hbm, ⟨2, _⟩ => ⟨S17920x5120, .fp8e4m3⟩
  | .hbm, ⟨3, _⟩ => ⟨S5120, .f32⟩
  | .hbm, ⟨4, _⟩ => ⟨S32x1x5120, .bf16⟩
  | .hbm, ⟨5, _⟩ => ⟨S32x17920, .fp8e4m3⟩
  | .hbm, ⟨6, _⟩ => ⟨S1x32, .f32⟩
  | .hbm, ⟨7, _⟩ => ⟨S1x5120, .f32⟩
  | .hbm, ⟨8, _⟩ => ⟨S32x5120, .bf16⟩
  | .hbm, ⟨9, _⟩ => ⟨S32x5120, .bf16⟩
  | .hbm, ⟨10, _⟩ => ⟨S32x1x5120, .bf16⟩
  | .local _ .vmem, ⟨0, _⟩ => ⟨S32x17920, .fp8e4m3⟩
  | .local _ .vmem, ⟨1, _⟩ => ⟨S1x32, .f32⟩
  | .local _ .vmem, ⟨2, _⟩ => ⟨S17920x512, .fp8e4m3⟩
  | .local _ .vmem, ⟨3, _⟩ => ⟨S17920x512, .fp8e4m3⟩
  | .local _ .vmem, ⟨4, _⟩ => ⟨S1x512, .f32⟩
  | .local _ .vmem, ⟨5, _⟩ => ⟨S1x512, .f32⟩
  | .local _ .vmem, ⟨6, _⟩ => ⟨S32x512, .bf16⟩
  | .local _ .vmem, ⟨7, _⟩ => ⟨S32x512, .bf16⟩
  | .local _ .vmem, ⟨8, _⟩ => ⟨S32x512, .bf16⟩
  | .local _ .vmem, ⟨9, _⟩ => ⟨S32x512, .bf16⟩
  | _, _ => ⟨S32x1x17920, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S32x17920 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S17920x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S32x1x17920 : Shape := ⟨3, ![32, 1, 17920]⟩
abbrev S32x1x1 : Shape := ⟨3, ![32, 1, 1]⟩
abbrev S17920x5120 : Shape := ⟨2, ![17920, 5120]⟩
abbrev S5120 : Shape := ⟨1, ![5120]⟩
abbrev S32x1x5120 : Shape := ⟨3, ![32, 1, 5120]⟩
abbrev S1x1x5120 : Shape := ⟨3, ![1, 1, 5120]⟩

abbrev nBuf : Space → Nat
  | .hbm => 6
  | .vmem => 6
  | .smem => 0
  | _ => 0

abbrev bufTy : (tb : Table) → Fin (tcTables nBuf tb) → BufTy
  | .hbm, ⟨0, _⟩ => ⟨S32x1x17920, .fp8e4m3⟩
  | .hbm, ⟨1, _⟩ => ⟨S32x1x1, .f32⟩
  | .hbm, ⟨2, _⟩ => ⟨S17920x5120, .fp8e4m3⟩
  | .hbm, ⟨3, _⟩ => ⟨S5120, .f32⟩
  | .hbm, ⟨4, _⟩ => ⟨S32x1x5120, .bf16⟩
  | .hbm, ⟨5, _⟩ => ⟨S32x1x5120, .bf16⟩
  | .local _ .vmem, ⟨0, _⟩ => ⟨S32x1x17920, .fp8e4m3⟩
  | .local _ .vmem, ⟨1, _⟩ => ⟨S32x1x1, .f32⟩
  | .local _ .vmem, ⟨2, _⟩ => ⟨S17920x5120, .fp8e4m3⟩
  | .local _ .vmem, ⟨3, _⟩ => ⟨S5120, .f32⟩
  | .local _ .vmem, ⟨4, _⟩ => ⟨S32x1x5120, .bf16⟩
  | .local _ .vmem, ⟨5, _⟩ => ⟨S32x1x5120, .bf16⟩
  | _, _ => ⟨S32x1x17920, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S32x1x17920 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S17920x5120 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S5120 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x1x5120 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x1x5120 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Spec.lean ====
/-
  Hand-written, untrusted. What the down projection computes, index by index over the extended reals: a product of the
  activations with the weights, scaled per row and per column, plus the residual.
-/
module

public import proofs.«01_k».proof.Defs
public import Idealize.ShloMosaic.Lib.Pointwise

@[expose] public section

noncomputable section

namespace Cert.Proof.Spec

open Idealize.ShloMosaic

/-- Row `i`, column `n` of the projection: `(Σ k, x[i,0,k] · w[k,n]) · xs[i,0,0] · ws[n] + r[i,0,n]`. -/
def down (x : FVec Ideal ⟨3, ![32, 1, 17920]⟩ .fp8e4m3) (xs : FVec Ideal ⟨3, ![32, 1, 1]⟩ .f32)
    (w : FVec Ideal ⟨2, ![17920, 5120]⟩ .fp8e4m3) (ws : FVec Ideal ⟨1, ![5120]⟩ .f32)
    (r : FVec Ideal ⟨3, ![32, 1, 5120]⟩ .bf16) (i : Fin 32) (n : Fin 5120) : EReal :=
  (∑ k : Fin 17920, x (ix3 i 0 k) * w (ix2 k n)) * xs (ix3 i 0 0) * ws (ix1 n) + r (ix3 i 0 n)

end Cert.Proof.Spec

end
-- ==== Proof.Block.lean ====
/-
  Hand-written, untrusted. The two programs' payloads read at an index over the extended reals.
-/
module

public import proofs.«01_k».proof.Proof.Spec
public import proofs.«01_k».proof.Proof.Gen.KernelIdeal.Skeleton
public import proofs.«01_k».proof.Proof.Gen.ReferenceIdeal.Skeleton

@[expose] public section

noncomputable section

namespace Cert.Proof.Block

open Idealize.ShloMosaic

/-- The kernel's payload at row `i`, column `n` of its block: the product of the activations with the weights' block, scaled
    by the row's and the column's scale, plus the residual's block. -/
theorem kernel_apply (x : FVec Ideal ⟨2, ![32, 17920]⟩ .fp8e4m3) (w : FVec Ideal ⟨2, ![17920, 512]⟩ .fp8e4m3)
    (xs : FVec Ideal ⟨2, ![1, 32]⟩ .f32) (ws : FVec Ideal ⟨2, ![1, 512]⟩ .f32) (r : FVec Ideal ⟨2, ![32, 512]⟩ .bf16)
    (i : Fin 32) (n : Fin 512) :
    Cert.KernelIdeal.Gen.k0_pay1 (F := Ideal) x w xs ws r (ix2 i n)
      = (∑ k : Fin 17920, x (ix2 i k) * w (ix2 k n)) * xs (ix2 0 i) * ws (ix2 0 n) + r (ix2 i n) := by
  pointwise [Cert.KernelIdeal.Gen.k0_pay1, Cert.KernelIdeal.dot_S32x17920_S17920x512_S32x512_1_0_0_1_n_n]

/-- The reference's payload at row `i`, column `n` is the projection there. -/
theorem reference_apply (x : FVec Ideal ⟨3, ![32, 1, 17920]⟩ .fp8e4m3) (w : FVec Ideal ⟨2, ![17920, 5120]⟩ .fp8e4m3)
    (xs : FVec Ideal ⟨3, ![32, 1, 1]⟩ .f32) (ws : FVec Ideal ⟨1, ![5120]⟩ .f32) (r : FVec Ideal ⟨3, ![32, 1, 5120]⟩ .bf16)
    (i : Fin 32) (n : Fin 5120) :
    Cert.ReferenceIdeal.Gen.k0_pay1 (F := Ideal) x w xs ws r (ix3 i 0 n) = Spec.down x xs w ws r i n := by
  unfold Spec.down
  pointwise [Cert.ReferenceIdeal.Gen.k0_pay1, Cert.ReferenceIdeal.dot_S32x1x17920_S17920x5120_S32x1x5120_2_0_01_1_n_n]

end Cert.Proof.Block

end
-- ==== Proof.KernelValue.lean ====
/-
  Hand-written, untrusted. `KernelIdeal`'s RUN WITH ITS VALUE over the extended reals: the result array ends holding the
  projection (Proof/Spec.lean) of the argument arrays, which end unchanged. The pipeline's arrays are reshapes of the
  arguments, the region leaves the projection of them block by block, and the last line reshapes it to the result.
-/
module

public import proofs.«01_k».proof.Proof.Block
public import proofs.«01_k».proof.Proof.Gen.KernelIdeal.Frame
public import Idealize.ShloMosaic.Lib.Pipeline.Value
public import Idealize.ShloMosaic.Lib.Pipeline.ValueKit
public import Idealize.ShloMosaic.Lib.StableHlo.ReadAt

@[expose] public section

noncomputable section

namespace Cert.Proof.KernelValue

open Idealize.ShloMosaic Idealize.SL.Sem Cert.KernelIdeal
open Cert.KernelIdeal.Gen Idealize.ShloMosaic.TcCoe
open Idealize.ShloMosaic.Pipeline (Dat Cfg Window)

variable (m : (ℓ : Loc nD τ sig) → Buf (Elt Ideal) ℓ) (ρ : Dev nD → PrngReg)

/-! ## The region's arrays, read off the arguments -/

/-- The activations' array: the argument without its middle axis. -/
theorem V_x (c : Dev nD) (i : Fin 32) (k : Fin 17920) :
    V m c main_v0 (ix2 i k) = m ((c : Thread nD τ).loc main_arg0) (ix3 i 0 k) := by
  unfold V
  after_reads_at

/-- The row scales' array: the argument as one row. -/
theorem V_xs (c : Dev nD) (i : Fin 32) :
    V m c main_v1 (ix2 0 i) = m ((c : Thread nD τ).loc main_arg1) (ix3 i 0 0) := by
  unfold V
  after_reads_at

/-- The column scales' array: the argument as one row. -/
theorem V_ws (c : Dev nD) (n : Fin 5120) :
    V m c main_v2 (ix2 0 n) = m ((c : Thread nD τ).loc main_arg3) (ix1 n) := by
  unfold V
  after_reads_at

/-- The residual's array: the argument without its middle axis. -/
theorem V_r (c : Dev nD) (i : Fin 32) (n : Fin 5120) :
    V m c main_v3 (ix2 i n) = m ((c : Thread nD τ).loc main_arg4) (ix3 i 0 n) := by
  unfold V
  after_reads_at

/-! ## The region's output array -/

/-- The projection of the arguments as core `c` finds them, at row `i`, column `n`. -/
abbrev downAt (c : Dev nD) (i : Fin 32) (n : Fin 5120) : EReal :=
  Spec.down (m ((c : Thread nD τ).loc main_arg0)) (m ((c : Thread nD τ).loc main_arg1))
    (m ((c : Thread nD τ).loc main_arg2)) (m ((c : Thread nD τ).loc main_arg3)) (m ((c : Thread nD τ).loc main_arg4)) i n

/-- The region's output array: the projection, rows by columns. -/
def G (c : Dev nD) : FVec Ideal S32x5120 .bf16 := fun j => downAt m c (j 0) (j 1)

/-- The activations' and the row scales' windows stay at block zero; the weights', the column scales', the residual's and
    the output's windows are at the point's block of columns. -/
theorem idx_facts : ∀ t : Fin cfg0.N, win0_0.index t = ![0, 0] ∧ win0_1.index t = ![0, 0]
    ∧ win0_2.index t = ![0, t.val] ∧ win0_3.index t = ![0, t.val] ∧ win0_4.index t = ![0, t.val]
    ∧ win0_5.index t = ![0, t.val] :=
  (by decide +kernel : ∀ t : Fin grid0.N, win0_0.index t = ![0, 0] ∧ win0_1.index t = ![0, 0]
    ∧ win0_2.index t = ![0, t.val] ∧ win0_3.index t = ![0, t.val] ∧ win0_4.index t = ![0, t.val]
    ∧ win0_5.index t = ![0, t.val])

/-- The whole-buffer loads read the buffers and the one covering store leaves its payload. -/
theorem out_eq (x0 : Vec Ideal S32x17920 .fp8e4m3) (x1 : Vec Ideal S1x32 .f32) (x2 : Vec Ideal S17920x512 .fp8e4m3)
    (x3 : Vec Ideal S1x512 .f32) (x4 : Vec Ideal S32x512 .bf16) :
    out0_5 (F := Ideal) x0 x1 x2 x3 x4 = k0_pay1 x0 x2 x1 x3 x4 := by
  have hz : (![0, 0] : Fin 2 → Nat) = fun _ => 0 := funext fun a => by fin_cases a <;> rfl
  unfold out0_5
  rw [View.canon_unit_zero hz, View.ld_unit_zero (S := S32x17920) hz, View.ld_unit_zero (S := S17920x512) hz,
    View.ld_unit_zero (S := S1x32) hz, View.ld_unit_zero (S := S1x512) hz, View.ld_unit_zero (S := S32x512) hz]

/-- Column `n` of block `t`. -/
abbrev col (t : Fin cfg0.N) (n : Fin 512) : Fin 5120 := ⟨t.val * 512 + n.val, by
  have h : t.val < 10 := t.isLt
  omega⟩

/-- The activations' block is the whole array. -/
theorem blk_x (c : Dev nD) (t : Fin cfg0.N) (i : Fin 32) (k : Fin 17920) :
    iblk m c 0 t (ix2 i k) = m ((c : Thread nD τ).loc main_arg0) (ix3 i 0 k) := by
  rw [← V_x m c i k]
  obtain ⟨e, -⟩ := idx_facts t
  blk_simp [iblk]
  refine congrArg _ (funext fun a => Fin.ext ?_)
  fin_cases a <;> blk_simp [e] <;> rfl

/-- The row scales' block is the whole array. -/
theorem blk_xs (c : Dev nD) (t : Fin cfg0.N) (i : Fin 32) :
    iblk m c 1 t (ix2 0 i) = m ((c : Thread nD τ).loc main_arg1) (ix3 i 0 0) := by
  rw [← V_xs m c i]
  obtain ⟨-, e, -⟩ := idx_facts t
  blk_simp [iblk]
  refine congrArg _ (funext fun a => Fin.ext ?_)
  fin_cases a <;> blk_simp [e] <;> rfl

/-- The weights' block is a block of columns. -/
theorem blk_w (c : Dev nD) (t : Fin cfg0.N) (k : Fin 17920) (n : Fin 512) :
    iblk m c 2 t (ix2 k n) = m ((c : Thread nD τ).loc main_arg2) (ix2 k (col t n)) := by
  rw [← V_main_arg2 m c]
  obtain ⟨-, -, e, -⟩ := idx_facts t
  blk_simp [iblk]
  refine congrArg _ (funext fun a => Fin.ext ?_)
  fin_cases a <;> blk_simp [e] <;> rfl

/-- The column scales' block is a block of columns. -/
theorem blk_ws (c : Dev nD) (t : Fin cfg0.N) (n : Fin 512) :
    iblk m c 3 t (ix2 0 n) = m ((c : Thread nD τ).loc main_arg3) (ix1 (col t n)) := by
  rw [← V_ws m c (col t n)]
  obtain ⟨-, -, -, e, -⟩ := idx_facts t
  blk_simp [iblk]
  refine congrArg _ (funext fun a => Fin.ext ?_)
  fin_cases a <;> blk_simp [e] <;> rfl

/-- The residual's block is a block of columns. -/
theorem blk_r (c : Dev nD) (t : Fin cfg0.N) (i : Fin 32) (n : Fin 512) :
    iblk m c 4 t (ix2 i n) = m ((c : Thread nD τ).loc main_arg4) (ix3 i 0 (col t n)) := by
  rw [← V_r m c i (col t n)]
  obtain ⟨-, -, -, -, e, -⟩ := idx_facts t
  blk_simp [iblk]
  refine congrArg _ (funext fun a => Fin.ext ?_)
  fin_cases a <;> blk_simp [e] <;> rfl

/-- What point `t` leaves at row `i`, column `n` of its block is the projection at row `i`, column `n` of block `t`. -/
theorem point_eq (c : Dev nD) (t : Fin cfg0.N) (i : Fin 32) (n : Fin 512) :
    (dats m 0 c).after 5 t (ix2 i n) = downAt m c i (col t n) := by
  rw [after0_5, out_eq]
  refine (Block.kernel_apply _ _ _ _ _ i n).trans ?_
  simp only [blk_x, blk_xs, blk_w, blk_ws, blk_r]
  rfl

/-- The output array after the run holds the projection. -/
theorem final_out (c : Dev nD) : (dats m 0 c).arrAt 5 cfg0.N = G m c := by
  refine (dats m 0 c).arrAt_eq_of_covers 5 _ (by decide +kernel) fun t hf y => ?_
  obtain ⟨-, -, -, -, -, e⟩ := idx_facts t
  blk_simp
  rw [eq_ix2 y]
  refine (point_eq m c t (y 0) (y 1)).trans ?_
  unfold G
  refine congrArg₂ (downAt m c) (Fin.ext ?_) (Fin.ext ?_) <;> blk_simp [e] <;> rfl

/-! ## The result and the run -/

/-- The result array after the last line: the output array with a middle axis of one. -/
theorem final_value (c : Dev nD) (i : Fin 32) (n : Fin 5120) :
    Pipeline.afterTail₀ cfgs (dats m) 0 (V0 m) [hostOps1] c main_v5 (ix3 i 0 n) = downAt m c i n := by
  have hr : Pipeline.withArrays spec0 c (V0 m c) (fun w => (dats m 0 c).arrAt w cfg0.N) (Proc.devRef .tc main_v4) = G m c :=
    (Pipeline.withArrays_arr spec0 launch0.win.arr_inj c (V0 m c) (fun w => (dats m 0 c).arrAt w cfg0.N) 5).trans
      (final_out m c)
  unfold Pipeline.afterTail₀
  after_reads_at
  exact congrFun hr (ix2 i n)

/-- The run: the result array ends holding the projection of the arguments, which end unchanged. -/
theorem run : θ_run (defs (F := Ideal)) (onTc (τ := τ) (main (F := Ideal))) ⟨m, fun _ => 0, ρ⟩ (fun r => ∀ c : Dev nD,
    r.2.mem ((c.tc : Thread nD τ).loc main_v5) = (fun j => downAt m c (j 0) (j 2) : FVec Ideal S32x1x5120 .bf16)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)) := by
  refine (θ_run defs _ _).mono (fun r h c => ?_) (run_main (F := Ideal) m ρ)
  refine ⟨((h c).2 main_v5 (Pipeline.mem_restRefs_of main_v5 (by decide) (by decide))).trans (funext fun j => ?_),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).1 2).trans (((dats m 0 c).arrAt_in 2 rfl _).trans ((A_eq m c 2).trans (V_main_arg2 m c))),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c)⟩
  obtain ⟨i, u, n, rfl⟩ : ∃ (i : Fin 32) (u : Fin 1) (n : Fin 5120), j = ix3 i u n := ⟨j 0, j 1, j 2, eq_ix3 j⟩
  obtain rfl : u = 0 := Subsingleton.elim _ _
  exact final_value m c i n

end Cert.Proof.KernelValue

end
-- ==== Proof.lean ====
module

public import proofs.«01_k».proof.Proof.KernelValue
public import proofs.«01_k».proof.Proof.Gen.ReferenceIdeal.Value
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import Idealize.ShloMosaic.Adequacy
public import Idealize.ShloMosaic.Init

@[expose] public section

noncomputable section

namespace Cert.Proof

open Idealize.ShloMosaic Idealize.SL.Sem Cert.Kernel

/-- The reference's result is the kernel's: the projection of the arguments, at every index. -/
theorem algebraic : Cert.algebraic_KernelIdeal_ReferenceIdeal := by
  intro m g m' g' _ hagree
  refine ⟨fun c => (fun j => KernelValue.downAt m c (j 0) (j 2) : FVec Ideal Cert.KernelIdeal.S32x1x5120 .bf16),
    KernelValue.run m g, (θ_run _ _ _).mono (fun r h c => ⟨(h c).1.trans (funext fun j => ?_), (h c).2⟩)
      (Cert.ReferenceIdeal.Value.run (F := Ideal) m' g')⟩
  obtain ⟨h0, h1, h2, h3, h4⟩ := hagree c
  rw [h0, h1, h2, h3, h4]
  obtain ⟨i, u, n, rfl⟩ : ∃ (i : Fin 32) (u : Fin 1) (n : Fin 5120), j = ix3 i u n := ⟨j 0, j 1, j 2, eq_ix3 j⟩
  obtain rfl : u = 0 := Subsingleton.elim _ _
  exact Block.reference_apply _ _ _ _ _ i n

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ, trivial, algebraic⟩

end Cert.Proof

end
